-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_nodes [hPre_first_nodes : Cert.Pre_first_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_first_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_nodes [hPre_first_nodes : Cert.Pre_first_nodes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_first_nodes [hKernelIdeal : Cert.KernelIdeal.Facts] [hPre_first_nodes : Cert.Pre_first_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_nodes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_first_nodes [hReferenceIdeal : Cert.ReferenceIdeal.Facts] [hPre_first_nodes : Cert.Pre_first_nodes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_nodes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_first_nodes [hKernelIdeal : Cert.KernelIdeal.Facts] [hReferenceIdeal : Cert.ReferenceIdeal.Facts] [hPre_first_nodes : Cert.Pre_first_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_nodes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_first_nodes : Cert.Pre_first_nodes.Facts),
    quiescent_Kernel (hKernel := hKernel)
    ∧ quiescent_KernelIdeal (hKernelIdeal := hKernelIdeal)
    ∧ quiescent_KernelIdeal_pre_first_nodes (hKernelIdeal := hKernelIdeal) (hPre_first_nodes := hPre_first_nodes)
    ∧ quiescent_ReferenceIdeal (hReferenceIdeal := hReferenceIdeal)
    ∧ quiescent_ReferenceIdeal_pre_first_nodes (hReferenceIdeal := hReferenceIdeal) (hPre_first_nodes := hPre_first_nodes)
    ∧ preserves_Kernel_KernelIdeal
    ∧ algebraic_KernelIdeal_ReferenceIdeal_pre_first_nodes (hKernelIdeal := hKernelIdeal) (hReferenceIdeal := hReferenceIdeal) (hPre_first_nodes := hPre_first_nodes)
-- ==== Pre_first_nodes.lean ====
abbrev S100000x1x10x6 : Shape := ⟨4, ![100000, 1, 10, 6]⟩
abbrev S50000 : Shape := ⟨1, ![50000]⟩
abbrev S60x256 : Shape := ⟨2, ![60, 256]⟩
abbrev S256 : Shape := ⟨1, ![256]⟩
abbrev S256x256 : Shape := ⟨2, ![256, 256]⟩
abbrev S_ : Shape := ⟨0, ![]⟩

class Facts : Prop where
  reducesTo_S50000_S_d0 : S50000.ReducesTo [0] S_
  h_S_ : 0 < S_.numel

variable [Facts]

def fn {F : FTy → Type} [FloatOps F] (main_arg0 : FVec F S100000x1x10x6 .f32) (main_arg1 : IVec S50000 32) (main_arg2 : FVec F S100000x1x10x6 .f32) (main_arg3 : IVec S50000 32) (main_arg4 : FVec F S60x256 .f32) (main_arg5 : FVec F S256 .f32) (main_arg6 : FVec F S256x256 .f32) (main_arg7 : FVec F S256 .f32) : IVec S_ 1 :=
  let main_v0 : IVec S50000 32 := iotaInDim S50000 32 0
  let main_v1 : IVec S50000 1 := cmpi .eq main_arg1 main_v0
  let main_c : IVec S_ 1 := constantI S_ 1 1#1
  let main_v2 : IVec S_ 1 := (fun x v => Host.reduce IntOp.andi x v reducesTo_S50000_S_d0 h_S_) main_v1 main_c
  let main_v3 : IVec S50000 1 := cmpi .eq main_arg3 main_v0
  let main_c_0 : IVec S_ 1 := constantI S_ 1 1#1
  let main_v4 : IVec S_ 1 := (fun x v => Host.reduce IntOp.andi x v reducesTo_S50000_S_d0 h_S_) main_v3 main_c_0
  let main_v5 : IVec S_ 1 := andi main_v2 main_v4
  main_v5
-- ==== Kernel.lean ====
abbrev S100000x1x10x6 : Shape := ⟨4, ![100000, 1, 10, 6]⟩
abbrev S50000 : Shape := ⟨1, ![50000]⟩
abbrev S60x256 : Shape := ⟨2, ![60, 256]⟩
abbrev S256 : Shape := ⟨1, ![256]⟩
abbrev S256x256 : Shape := ⟨2, ![256, 256]⟩
abbrev S50000x1x10x6 : Shape := ⟨4, ![50000, 1, 10, 6]⟩
abbrev S50000x60 : Shape := ⟨2, ![50000, 60]⟩
abbrev S1x256 : Shape := ⟨2, ![1, 256]⟩
abbrev S100000x256 : Shape := ⟨2, ![100000, 256]⟩
abbrev S10000x60 : Shape := ⟨2, ![10000, 60]⟩
abbrev S10000x256 : Shape := ⟨2, ![10000, 256]⟩

abbrev nBuf : Space → Nat
  | .hbm => 20
  | .vmem => 12
  | .smem => 0
  | _ => 0

abbrev bufTy : (tb : Table) → Fin (tcTables nBuf tb) → BufTy
  | .hbm, ⟨0, _⟩ => ⟨S100000x1x10x6, .f32⟩
  | .hbm, ⟨1, _⟩ => ⟨S50000, .i32⟩
  | .hbm, ⟨2, _⟩ => ⟨S100000x1x10x6, .f32⟩
  | .hbm, ⟨3, _⟩ => ⟨S50000, .i32⟩
  | .hbm, ⟨4, _⟩ => ⟨S60x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S50000x1x10x6, .f32⟩
  | .hbm, ⟨9, _⟩ => ⟨S50000x60, .f32⟩
  | .hbm, ⟨10, _⟩ => ⟨S50000x60, .bf16⟩
  | .hbm, ⟨11, _⟩ => ⟨S50000x1x10x6, .f32⟩
  | .hbm, ⟨12, _⟩ => ⟨S50000x60, .f32⟩
  | .hbm, ⟨13, _⟩ => ⟨S50000x60, .bf16⟩
  | .hbm, ⟨14, _⟩ => ⟨S60x256, .bf16⟩
  | .hbm, ⟨15, _⟩ => ⟨S256x256, .bf16⟩
  | .hbm, ⟨16, _⟩ => ⟨S1x256, .f32⟩
  | .hbm, ⟨17, _⟩ => ⟨S1x256, .f32⟩
  | .hbm, ⟨18, _⟩ => ⟨S100000x256, .f32⟩
  | .hbm, ⟨19, _⟩ => ⟨S100000x256, .f32⟩
  | .local _ .vmem, ⟨0, _⟩ => ⟨S10000x60, .bf16⟩
  | .local _ .vmem, ⟨1, _⟩ => ⟨S10000x60, .bf16⟩
  | .local _ .vmem, ⟨2, _⟩ => ⟨S10000x60, .bf16⟩
  | .local _ .vmem, ⟨3, _⟩ => ⟨S10000x60, .bf16⟩
  | .local _ .vmem, ⟨4, _⟩ => ⟨S60x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S10000x256, .f32⟩
  | .local _ .vmem, ⟨9, _⟩ => ⟨S10000x256, .f32⟩
  | .local _ .vmem, ⟨10, _⟩ => ⟨S10000x256, .f32⟩
  | .local _ .vmem, ⟨11, _⟩ => ⟨S10000x256, .f32⟩
  | _, _ => ⟨S100000x1x10x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c5_i32 : BitVec 32 := 5#32
  let v0 : BitVec 1 := Scalar.cmpi .slt arg0 c5_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c5_i32_0 : BitVec 32 := 5#32
  let v3 : BitVec 1 := Scalar.cmpi .sge arg0 c5_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x60 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x60 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S60x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S100000x1x10x6 : Shape := ⟨4, ![100000, 1, 10, 6]⟩
abbrev S50000 : Shape := ⟨1, ![50000]⟩
abbrev S60x256 : Shape := ⟨2, ![60, 256]⟩
abbrev S256 : Shape := ⟨1, ![256]⟩
abbrev S256x256 : Shape := ⟨2, ![256, 256]⟩
abbrev S100000x10x6 : Shape := ⟨3, ![100000, 10, 6]⟩
abbrev S100000x60 : Shape := ⟨2, ![100000, 60]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S50000x60 : Shape := ⟨2, ![50000, 60]⟩
abbrev S50000x256 : Shape := ⟨2, ![50000, 256]⟩
abbrev S1x256 : Shape := ⟨2, ![1, 256]⟩
abbrev S100000x256 : Shape := ⟨2, ![100000, 256]⟩

abbrev nBuf : Space → Nat
  | .hbm => 126
  | .vmem => 0
  | .smem => 0
  | _ => 0

abbrev bufTy : (tb : Table) → Fin (tcTables nBuf tb) → BufTy
  | .hbm, ⟨0, _⟩ => ⟨S100000x1x10x6, .f32⟩
  | .hbm, ⟨1, _⟩ => ⟨S50000, .i32⟩
  | .hbm, ⟨2, _⟩ => ⟨S100000x1x10x6, .f32⟩
  | .hbm, ⟨3, _⟩ => ⟨S50000, .i32⟩
  | .hbm, ⟨4, _⟩ => ⟨S60x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S100000x10x6, .f32⟩
  | .hbm, ⟨9, _⟩ => ⟨S100000x60, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S1, .i32⟩
  | .hbm, ⟨19, _⟩ => ⟨S_, .i32⟩
  | .hbm, ⟨20, _⟩ => ⟨S50000x1, .i32⟩
  | .hbm, ⟨21, _⟩ => ⟨S50000x1, .i1⟩
  | .hbm, ⟨22, _⟩ => ⟨S1x1, .i32⟩
  | .hbm, ⟨23, _⟩ => ⟨S50000x1, .i32⟩
  | .hbm, ⟨24, _⟩ => ⟨S50000x1, .i1⟩
  | .hbm, ⟨25, _⟩ => ⟨S50000x1, .i1⟩
  | .hbm, ⟨26, _⟩ => ⟨S_, .i1⟩
  | .hbm, ⟨27, _⟩ => ⟨S50000, .i1⟩
  | .hbm, ⟨28, _⟩ => ⟨S50000x60, .f32⟩
  | .hbm, ⟨29, _⟩ => ⟨S50000x60, .i1⟩
  | .hbm, ⟨30, _⟩ => ⟨S_, .f32⟩
  | .hbm, ⟨31, _⟩ => ⟨S50000x60, .f32⟩
  | .hbm, ⟨32, _⟩ => ⟨S50000x60, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .i1⟩
  | .hbm, ⟨40, _⟩ => ⟨S_, .f32⟩
  | .hbm, ⟨41, _⟩ => ⟨S50000x256, .f32⟩
  | .hbm, ⟨42, _⟩ => ⟨S50000x256, .i1⟩
  | .hbm, ⟨43, _⟩ => ⟨S_, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S100000x256, .f32⟩
  | .hbm, ⟨58, _⟩ => ⟨S_, .i32⟩
  | .hbm, ⟨59, _⟩ => ⟨S50000, .i32⟩
  | .hbm, ⟨60, _⟩ => ⟨S50000, .i1⟩
  | .hbm, ⟨61, _⟩ => ⟨S_, .i32⟩
  | .hbm, ⟨62, _⟩ => ⟨S50000, .i32⟩
  | .hbm, ⟨63, _⟩ => ⟨S50000, .i32⟩
  | .hbm, ⟨64, _⟩ => ⟨S50000, .i32⟩
  | .hbm, ⟨65, _⟩ => ⟨S50000x1, .i32⟩
  | .hbm, ⟨66, _⟩ => ⟨S100000x256, .f32⟩
  | .hbm, ⟨67, _⟩ => ⟨S100000x10x6, .f32⟩
  | .hbm, ⟨68, _⟩ => ⟨S100000x60, .f32⟩
  | .hbm, ⟨69, _⟩ => ⟨S_, .i32⟩
  | .hbm, ⟨70, _⟩ => ⟨S50000, .i32⟩
  | .hbm, ⟨71, _⟩ => ⟨S50000, .i1⟩
  | .hbm, ⟨72, _⟩ => ⟨S_, .i32⟩
  | .hbm, ⟨73, _⟩ => ⟨S50000, .i32⟩
  | .hbm, ⟨74, _⟩ => ⟨S50000, .i32⟩
  | .hbm, ⟨75, _⟩ => ⟨S50000, .i32⟩
  | .hbm, ⟨76, _⟩ => ⟨S50000x1, .i32⟩
  | .hbm, ⟨77, _⟩ => ⟨S1, .i32⟩
  | .hbm, ⟨78, _⟩ => ⟨S_, .i32⟩
  | .hbm, ⟨79, _⟩ => ⟨S50000x1, .i32⟩
  | .hbm, ⟨80, _⟩ => ⟨S50000x1, .i1⟩
  | .hbm, ⟨81, _⟩ => ⟨S1x1, .i32⟩
  | .hbm, ⟨82, _⟩ => ⟨S50000x1, .i32⟩
  | .hbm, ⟨83, _⟩ => ⟨S50000x1, .i1⟩
  | .hbm, ⟨84, _⟩ => ⟨S50000x1, .i1⟩
  | .hbm, ⟨85, _⟩ => ⟨S_, .i1⟩
  | .hbm, ⟨86, _⟩ => ⟨S50000, .i1⟩
  | .hbm, ⟨87, _⟩ => ⟨S50000x60, .f32⟩
  | .hbm, ⟨88, _⟩ => ⟨S50000x60, .i1⟩
  | .hbm, ⟨89, _⟩ => ⟨S_, .f32⟩
  | .hbm, ⟨90, _⟩ => ⟨S50000x60, .f32⟩
  | .hbm, ⟨91, _⟩ => ⟨S50000x60, .f32⟩
  | .hbm, ⟨92, _⟩ => ⟨S50000x256, .f32⟩
  | .hbm, ⟨93, _⟩ => ⟨S1x256, .f32⟩
  | .hbm, ⟨94, _⟩ => ⟨S50000x256, .f32⟩
  | .hbm, ⟨95, _⟩ => ⟨S50000x256, .f32⟩
  | .hbm, ⟨96, _⟩ => ⟨S_, .f32⟩
  | .hbm, ⟨97, _⟩ => ⟨S50000x256, .f32⟩
  | .hbm, ⟨98, _⟩ => ⟨S50000x256, .i1⟩
  | .hbm, ⟨99, _⟩ => ⟨S_, .f32⟩
  | .hbm, ⟨100, _⟩ => ⟨S50000x256, .f32⟩
  | .hbm, ⟨101, _⟩ => ⟨S50000x256, .i1⟩
  | .hbm, ⟨102, _⟩ => ⟨S_, .f32⟩
  | .hbm, ⟨103, _⟩ => ⟨S_, .f32⟩
  | .hbm, ⟨104, _⟩ => ⟨S50000x256, .f32⟩
  | .hbm, ⟨105, _⟩ => ⟨S50000x256, .f32⟩
  | .hbm, ⟨106, _⟩ => ⟨S50000x256, .f32⟩
  | .hbm, ⟨107, _⟩ => ⟨S_, .f32⟩
  | .hbm, ⟨108, _⟩ => ⟨S50000x256, .f32⟩
  | .hbm, ⟨109, _⟩ => ⟨S50000x256, .f32⟩
  | .hbm, ⟨110, _⟩ => ⟨S50000x256, .f32⟩
  | .hbm, ⟨111, _⟩ => ⟨S50000x256, .f32⟩
  | .hbm, ⟨112, _⟩ => ⟨S1x256, .f32⟩
  | .hbm, ⟨113, _⟩ => ⟨S50000x256, .f32⟩
  | .hbm, ⟨114, _⟩ => ⟨S50000x256, .f32⟩
  | .hbm, ⟨115, _⟩ => ⟨S_, .f32⟩
  | .hbm, ⟨116, _⟩ => ⟨S100000x256, .f32⟩
  | .hbm, ⟨117, _⟩ => ⟨S_, .i32⟩
  | .hbm, ⟨118, _⟩ => ⟨S50000, .i32⟩
  | .hbm, ⟨119, _⟩ => ⟨S50000, .i1⟩
  | .hbm, ⟨120, _⟩ => ⟨S_, .i32⟩
  | .hbm, ⟨121, _⟩ => ⟨S50000, .i32⟩
  | .hbm, ⟨122, _⟩ => ⟨S50000, .i32⟩
  | .hbm, ⟨123, _⟩ => ⟨S50000, .i32⟩
  | .hbm, ⟨124, _⟩ => ⟨S50000x1, .i32⟩
  | .hbm, ⟨125, _⟩ => ⟨S100000x256, .f32⟩
  | _, _ => ⟨S100000x1x10x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_cst_1 : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_v4 : Ref sig .tc := ⟨.hbm, 46, rfl⟩
abbrev main_call1_v5 : Ref sig .tc := ⟨.hbm, 47, rfl⟩
abbrev main_call1_cst_2 : Ref sig .tc := ⟨.hbm, 48, rfl⟩
abbrev main_call1_v6 : Ref sig .tc := ⟨.hbm, 49, rfl⟩
abbrev main_call1_v7 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst : Ref sig .tc := ⟨.hbm, 56, rfl⟩
abbrev main_v12 : Ref sig .tc := ⟨.hbm, 57, rfl⟩
abbrev main_c : Ref sig .tc := ⟨.hbm, 58, rfl⟩
abbrev main_v13 : Ref sig .tc := ⟨.hbm, 59, rfl⟩
abbrev main_v14 : Ref sig .tc := ⟨.hbm, 60, rfl⟩
abbrev main_c_0 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_call3_cst : Ref sig .tc := ⟨.hbm, 96, rfl⟩
abbrev main_call3_v0 : Ref sig .tc := ⟨.hbm, 97, rfl⟩
abbrev main_call3_v1 : Ref sig .tc := ⟨.hbm, 98, rfl⟩
abbrev main_call3_cst_0 : Ref sig .tc := ⟨.hbm, 99, rfl⟩
abbrev main_call3_v2 : Ref sig .tc := ⟨.hbm, 100, rfl⟩
abbrev main_call3_v3 : Ref sig .tc := ⟨.hbm, 101, rfl⟩
abbrev main_call3_cst_1 : Ref sig .tc := ⟨.hbm, 102, rfl⟩
abbrev main_call3_call0_v0 : Ref sig .tc := ⟨.hbm, 103, rfl⟩
abbrev main_call3_call0_v1 : Ref sig .tc := ⟨.hbm, 104, rfl⟩
abbrev main_call3_v4 : Ref sig .tc := ⟨.hbm, 105, rfl⟩
abbrev main_call3_v5 : Ref sig .tc := ⟨.hbm, 106, rfl⟩
abbrev main_call3_cst_2 : Ref sig .tc := ⟨.hbm, 107, rfl⟩
abbrev main_call3_v6 : Ref sig .tc := ⟨.hbm, 108, rfl⟩
abbrev main_call3_v7 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_cst_1 : Ref sig .tc := ⟨.hbm, 115, rfl⟩
abbrev main_v32 : Ref sig .tc := ⟨.hbm, 116, rfl⟩
abbrev main_c_2 : Ref sig .tc := ⟨.hbm, 117, rfl⟩
abbrev main_v33 : Ref sig .tc := ⟨.hbm, 118, rfl⟩
abbrev main_v34 : Ref sig .tc := ⟨.hbm, 119, rfl⟩
abbrev main_c_3 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩

abbrev nD : Nat := 1
abbrev τ : Topo := Topo.v7x

variable {F : FTy → Type} [FloatOps F]
-- ==== Proof.Spec.lean ====
/-
  WHAT BOTH PROGRAMS COMPUTE, as one function of the arguments over the extended reals: the two-layer perceptron with
  an exponential linear unit between the layers, applied to the 60 features of each of the first 50000 nodes; every
  later row is zero. Nothing here names a program.
-/
module

public import Idealize.ShloMosaic.PureOps.Ideal.Laws
public import Idealize.ShloMosaic.Lib.ValueIdx

@[expose] public section

noncomputable section

namespace Cert.Spec

open Idealize.ShloMosaic Idealize.ShloMosaic.ValueIdx
open scoped BigOperators

/-- The exponential linear unit: `z` where it is positive, `e ^ z - 1` elsewhere. -/
def elu (z : EReal) : EReal := if 0 < z then z else Ideal.exp z - 1

/-- One entry of the perceptron's output for one node: its 60 features `x` through the first layer `w1`, `b1`, the
    exponential linear unit, and column `j` of the second layer `w2`, `b2`. -/
def mlp (w1 : (⟨2, ![60, 256]⟩ : Shape).Idx → EReal) (b1 : Fin 256 → EReal)
    (w2 : (⟨2, ![256, 256]⟩ : Shape).Idx → EReal) (b2 : Fin 256 → EReal) (x : Fin 60 → EReal) (j : Fin 256) : EReal :=
  (∑ k : Fin 256, elu ((∑ q : Fin 60, x q * w1 (ix2 q k)) + b1 k) * w2 (ix2 k j)) + b2 j

/-- Feature `q` of node `n`: the node's 1 × 10 × 6 grid read in row-major order. -/
def feature (g : (⟨4, ![100000, 1, 10, 6]⟩ : Shape).Idx → EReal) (n : Fin 100000) (q : Fin 60) : EReal :=
  g (ix4 n (0 : Fin 1) ⟨q.val / 6, by omega⟩ ⟨q.val % 6, by omega⟩)

/-- The result for one graph of grids `g`: row `n` is the perceptron's output for node `n` when `n < 50000`, and
    zero from row 50000 on. -/
def out (g : (⟨4, ![100000, 1, 10, 6]⟩ : Shape).Idx → EReal) (w1 : (⟨2, ![60, 256]⟩ : Shape).Idx → EReal)
    (b1 : (⟨1, ![256]⟩ : Shape).Idx → EReal) (w2 : (⟨2, ![256, 256]⟩ : Shape).Idx → EReal)
    (b2 : (⟨1, ![256]⟩ : Shape).Idx → EReal) : (⟨2, ![100000, 256]⟩ : Shape).Idx → EReal := fun i =>
  if (i 0).val < 50000 then
    mlp w1 (fun k => b1 (ix1 k)) w2 (fun k => b2 (ix1 k)) (feature g ⟨(i 0).val, idx2_lt0 i⟩) ⟨(i 1).val, idx2_lt1 i⟩
  else 0

/-- The bit pattern of the float 1 is the real number 1. -/
theorem ofBits_one : Ideal.ofBits .f32 0x3F800000#32 = 1 := by
  simp [Ideal.ofBits, Ideal.ieee, -EReal.coe_mul]; norm_num

/-- A choice by the ordered comparison `y < x` is the choice by that inequality. -/
theorem select_ogt (x y a b : EReal) : Scalar.select (Ideal.cmp .ogt x y) a b = if y < x then a else b := by
  unfold Ideal.cmp Scalar.select
  by_cases h : y < x <;> simp [h]

/-- The kernel's spelling of the unit, whose exponential is of the smaller of `z` and 0. -/
theorem elu_min (z : EReal) : Scalar.select (Ideal.cmp .ogt z 0) z (Ideal.exp (min z 0) - 1) = elu z := by
  rw [select_ogt]
  unfold elu
  by_cases h : 0 < z
  · rw [if_pos h, if_pos h]
  · rw [if_neg h, if_neg h, min_eq_left (not_lt.1 h)]

/-- The reference's spelling of the unit, which chooses 0 in place of a positive `z` before the exponential and
    scales the negative branch by 1. -/
theorem elu_where (z : EReal) :
    Scalar.select (Ideal.cmp .ogt z 0) z (1 * (Ideal.exp (Scalar.select (Ideal.cmp .ogt z 0) 0 z) - 1)) = elu z := by
  rw [select_ogt, select_ogt, one_mul]
  unfold elu
  by_cases h : 0 < z
  · rw [if_pos h, if_pos h]
  · rw [if_neg h, if_neg h, if_neg h]

end Cert.Spec

end
-- ==== Proof.Pre.lean ====
/-
  THE PRECONDITION READ BACK: where `first_nodes` answers 1, each index array holds, at every position, the word of that
  position.
-/
module

public import proofs.«01_k».proof.Proof.Gen.Pre_first_nodes
public import proofs.«01_k».proof.Proof.Spec
public import Idealize.ShloMosaic.Lib.ReduceAll
public import Idealize.ShloMosaic.Lib.StableHlo.Predicate

@[expose] public section

noncomputable section

namespace Cert.Pre_first_nodes

open Idealize.ShloMosaic Cert.Pre_first_nodes.Gen

/-- A scalar has one index. -/
theorem scalar_subsingleton : Subsingleton S_.Idx := ⟨fun _ _ => funext fun a => a.elim0⟩

/-- If the conjunction over all positions of `e = position` is 1, then `e` is the position's word at each. -/
theorem positions (e : IVec S50000 32) (j : S_.Idx)
    (h : Host.reduce IntOp.andi (cmpi .eq e (iotaInDim S50000 32 0)) (constantI S_ 1 1#1) reducesTo_S50000_S_d0 h_S_ j = 1#1)
    (i : S50000.Idx) : e i = BitVec.ofNat 32 (i 0).val := by
  haveI := scalar_subsingleton
  exact StableHlo.Predicate.cmpi_eq_iff.1 (Host.reduce_andi_all _ _ _ _ j h i)

/-- Where the precondition holds, both index arrays name the first 50000 nodes in order. -/
theorem first_nodes (x0 : FVec Ideal S100000x1x10x6 .f32) (x1 : IVec S50000 32) (x2 : FVec Ideal S100000x1x10x6 .f32) (x3 : IVec S50000 32)
    (x4 : FVec Ideal S60x256 .f32) (x5 : FVec Ideal S256 .f32) (x6 : FVec Ideal S256x256 .f32) (x7 : FVec Ideal S256 .f32)
    (h : fn (F := Ideal) x0 x1 x2 x3 x4 x5 x6 x7 = fun _ => 1#1) :
    (∀ i : S50000.Idx, x1 i = BitVec.ofNat 32 (i 0).val) ∧ ∀ i : S50000.Idx, x3 i = BitVec.ofNat 32 (i 0).val := by
  obtain ⟨h1, h3⟩ := IntOp.andi_eq_one.1 (congrFun h fun a => a.elim0)
  exact ⟨positions x1 _ h1, positions x3 _ h3⟩

end Cert.Pre_first_nodes

end
-- ==== Proof.Block.lean ====
/-
  ONE BLOCK of the kernel over the extended reals: what its body leaves in each of the two staging buffers, read at an
  entry. At the first five grid points that is the perceptron's output for the block's rows; at the last five it is zero.
-/
module

public import proofs.«01_k».proof.Proof.Spec
public import proofs.«01_k».proof.Proof.Gen.KernelIdeal.Value
public import Idealize.ShloMosaic.Lib.MatmulPlain

@[expose] public section

noncomputable section

namespace Cert.KernelIdeal.Block

open Cert.KernelIdeal Cert.KernelIdeal.Gen Cert.Spec Idealize.ShloMosaic Idealize.ShloMosaic.TcCoe Idealize.ShloMosaic.ValueIdx
open scoped BigOperators

/-- A bias row broadcast down the block's rows, read at an entry, is the row at that column. -/
theorem bias_apply (b : Vec Ideal S1x256 .f32) (r : Fin 10000) (k : Fin 256) :
    broadcastTo S10000x256 b broadcasts_S1x256_S10000x256 (ix2 r k) = b (ix2 0 k) := by
  refine broadcastTo_apply b _ _ _ fun a => ?_
  match a with
  | ⟨0, _⟩ => rfl
  | ⟨1, _⟩ => rfl

/-- The first layer of a block before its nonlinearity: features by weights, plus the bias. -/
theorem pay9_apply (w1 : Vec Ideal S60x256 .bf16) (b1 : Vec Ideal S1x256 .f32) (x : Vec Ideal S10000x60 .bf16)
    (r : Fin 10000) (k : Fin 256) :
    k0_pay9 w1 b1 x (ix2 r k) = (∑ q : Fin 60, x (ix2 r q) * w1 (ix2 q k)) + b1 (ix2 0 k) := by
  unfold k0_pay9 k0_pay4 k0_pay6
  simp only [shapeCast_self]
  rw [addf_apply, bias_apply]
  refine congrArg (· + _) ?_
  refine (Ideal.matmul_plain_apply none x w1 _ r k).trans ?_
  rw [constant_apply, Ideal.ofBits_zero_f32, zero_add]

/-- The second layer of a block on a hidden layer `h`, plus the bias. -/
theorem second_apply (h : FVec Ideal S10000x256 .bf16) (w2 : FVec Ideal S256x256 .bf16) (b2 : Vec Ideal S1x256 .f32)
    (r : Fin 10000) (j : Fin 256) :
    addf (matmul dot_S10000x256_S256x256_S10000x256_1_0_0_1_n_n none h w2 (constant S10000x256 .f32 0x00000000#32))
        (broadcastTo S10000x256 b2 broadcasts_S1x256_S10000x256) (ix2 r j)
      = (∑ k : Fin 256, h (ix2 r k) * w2 (ix2 k j)) + b2 (ix2 0 j) := by
  rw [addf_apply, bias_apply]
  refine congrArg (· + _) ?_
  refine (Ideal.matmul_plain_apply none h w2 _ r j).trans ?_
  rw [constant_apply, Ideal.ofBits_zero_f32, zero_add]

/-- The second graph's payload, read at an entry: the perceptron's output for that row of the block. -/
theorem pay1_apply (w1 : Vec Ideal S60x256 .bf16) (w2 : Vec Ideal S256x256 .bf16) (b1 b2 : Vec Ideal S1x256 .f32)
    (x : Vec Ideal S10000x60 .bf16) (r : Fin 10000) (j : Fin 256) :
    k0_pay1 (k0_pay5 w2) (k0_pay7 b2) (k0_pay9 w1 b1 x) (k0_pay10 w1 b1 x) (k0_pay11 w1 b1 x) (Scalar.ofBits .f32 0x3F800000#32) (ix2 r j)
      = mlp w1 (fun k => b1 (ix2 0 k)) w2 (fun k => b2 (ix2 0 k)) (fun q => x (ix2 r q)) j := by
  unfold k0_pay1 k0_pay5 k0_pay7
  simp only [shapeCast_self]
  rw [second_apply]
  unfold mlp
  refine congrArg (· + _) (Finset.sum_congr rfl fun k _ => congrArg (· * _) ?_)
  rw [truncf_apply, select_apply, subf_apply, ← elu_min, ← pay9_apply, ← Ideal.ofBits_zero_f32, ← ofBits_one]
  rfl

/-- The first graph's payload is the same expression of its own block. -/
theorem pay8_eq (w1 : Vec Ideal S60x256 .bf16) (w2 : Vec Ideal S256x256 .bf16) (b1 b2 : Vec Ideal S1x256 .f32)
    (x : Vec Ideal S10000x60 .bf16) :
    k0_pay8 w1 w2 b1 b2 x = k0_pay1 (k0_pay5 w2) (k0_pay7 b2) (k0_pay9 w1 b1 x) (k0_pay10 w1 b1 x) (k0_pay11 w1 b1 x) (Scalar.ofBits .f32 0x3F800000#32) :=
  rfl

/-- A rectangle at the origin of a rank-two buffer has zero offsets. -/
theorem hz : (![0, 0] : Fin 2 → Nat) = fun _ => 0 := funext fun a => by fin_cases a <;> rfl

section
variable (c : Dev nD) (i : grid0.Coords)
  (a1 : Memref sig .tc .vmem S10000x60 .bf16) (h1 : a1.IsWhole) (a2 : Memref sig .tc .vmem S10000x60 .bf16) (h2 : a2.IsWhole)
  (a3 : Memref sig .tc .vmem S60x256 .bf16) (h3 : a3.IsWhole) (a4 : Memref sig .tc .vmem S1x256 .f32) (h4 : a4.IsWhole)
  (a5 : Memref sig .tc .vmem S256x256 .bf16) (h5 : a5.IsWhole) (a6 : Memref sig .tc .vmem S1x256 .f32) (h6 : a6.IsWhole)
  (a7 : Memref sig .tc .vmem S10000x256 .f32) (h7 : a7.IsWhole) (a8 : Memref sig .tc .vmem S10000x256 .f32) (h8 : a8.IsWhole)
  (x1 x2 : Vec Ideal S10000x60 .bf16) (w1 : Vec Ideal S60x256 .bf16) (b1 : Vec Ideal S1x256 .f32) (w2 : Vec Ideal S256x256 .bf16) (b2 : Vec Ideal S1x256 .f32)

/-- At a computing point the first output's buffer ends holding the payload of the first graph's block. -/
theorem out_A_6 (hc0 : cond0_0 i) (hc1 : ¬cond0_1 i) :
    out0_A_6 c i a1 h1 a2 h2 a3 h3 a4 h4 a5 h5 a6 h6 a7 h7 a8 h8 hc0 hc1 x1 x2 w1 b1 w2 b2 = k0_pay8 w1 w2 b1 b2 x1 := by
  unfold out0_A_6
  rw [View.read_writes_eq_canon _ _ _ (cover0_A_6 c i a1 h1 a2 h2 a3 h3 a4 h4 a5 h5 a6 h6 a7 h7 a8 h8 hc0 hc1 x1 x2 w1 b1 w2 b2)]
  unfold kernelRun0_A
  dsimp only
  sl_unfold_words
  rw [View.canon_unit_zero hz]
  simp only [View.readAt_eq_ld, h1.read_unread, h3.read_unread, h4.read_unread, h5.read_unread, h6.read_unread,
    View.ld_unit_zero (S := S10000x60) hz, View.ld_unit_zero (S := S60x256) hz, View.ld_unit_zero (S := S256x256) hz,
    View.ld_unit_zero (S := S1x256) hz]

/-- At a computing point the second output's buffer ends holding the payload of the second graph's block. -/
theorem out_A_7 (hc0 : cond0_0 i) (hc1 : ¬cond0_1 i) :
    out0_A_7 c i a1 h1 a2 h2 a3 h3 a4 h4 a5 h5 a6 h6 a7 h7 a8 h8 hc0 hc1 x1 x2 w1 b1 w2 b2
      = k0_pay1 (k0_pay5 w2) (k0_pay7 b2) (k0_pay9 w1 b1 x2) (k0_pay10 w1 b1 x2) (k0_pay11 w1 b1 x2) (Scalar.ofBits .f32 0x3F800000#32) := by
  unfold out0_A_7
  rw [View.read_writes_eq_canon _ _ _ (cover0_A_7 c i a1 h1 a2 h2 a3 h3 a4 h4 a5 h5 a6 h6 a7 h7 a8 h8 hc0 hc1 x1 x2 w1 b1 w2 b2)]
  unfold kernelRun0_A
  dsimp only
  sl_unfold_words
  rw [View.canon_unit_zero hz]
  simp only [View.readAt_eq_ld, h2.read_unread, h3.read_unread, h4.read_unread, h5.read_unread, h6.read_unread,
    View.ld_unit_zero (S := S10000x60) hz, View.ld_unit_zero (S := S60x256) hz, View.ld_unit_zero (S := S256x256) hz,
    View.ld_unit_zero (S := S1x256) hz]

/-- At a zeroing point the first output's buffer ends holding zeros. -/
theorem out_B_6 (hc0 : ¬cond0_0 i) (hc1 : cond0_1 i) :
    out0_B_6 c i a1 h1 a2 h2 a3 h3 a4 h4 a5 h5 a6 h6 a7 h7 a8 h8 hc0 hc1 x1 x2 w1 b1 w2 b2 = fun _ => (0 : EReal) := by
  unfold out0_B_6
  rw [View.read_writes_eq_canon _ _ _ (cover0_B_6 c i a1 h1 a2 h2 a3 h3 a4 h4 a5 h5 a6 h6 a7 h7 a8 h8 hc0 hc1 x1 x2 w1 b1 w2 b2)]
  unfold kernelRun0_B
  dsimp only
  rw [View.canon_unit_zero hz]
  exact funext fun _ => Ideal.ofBits_zero_f32

/-- At a zeroing point the second output's buffer ends holding zeros. -/
theorem out_B_7 (hc0 : ¬cond0_0 i) (hc1 : cond0_1 i) :
    out0_B_7 c i a1 h1 a2 h2 a3 h3 a4 h4 a5 h5 a6 h6 a7 h7 a8 h8 hc0 hc1 x1 x2 w1 b1 w2 b2 = fun _ => (0 : EReal) := by
  unfold out0_B_7
  rw [View.read_writes_eq_canon _ _ _ (cover0_B_7 c i a1 h1 a2 h2 a3 h3 a4 h4 a5 h5 a6 h6 a7 h7 a8 h8 hc0 hc1 x1 x2 w1 b1 w2 b2)]
  unfold kernelRun0_B
  dsimp only
  rw [View.canon_unit_zero hz]
  exact funext fun _ => Ideal.ofBits_zero_f32

end

end Cert.KernelIdeal.Block

end
-- ==== Proof.KernelValue.lean ====
/-
  THE KERNEL'S TWO RESULT ARRAYS over the extended reals: each ends holding `Cert.Spec.out` of its own graph's grids and
  the shared weights. The arrays the windows stage are read back to the arguments, each grid point's block to those
  arrays, and the ten blocks of 10000 rows together cover the 100000 rows.
-/
module

public import proofs.«01_k».proof.Proof.Block

@[expose] public section

noncomputable section

namespace Cert.KernelIdeal.Block

open Cert.KernelIdeal Cert.KernelIdeal.Gen Cert.Spec Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg) (c : Dev nD)

/-- The first 50000 nodes' grids flattened to 60 features, read at a node and a feature. -/
theorem flat_apply (g : Vec Ideal S100000x1x10x6 .f32) (n : Fin 50000) (q : Fin 60) :
    (truncf (F := Ideal) .bf16 (shapeCast S50000x60 (extractStridedSlice S50000x1x10x6 ![0, 0, 0, 0] g slices_S100000x1x10x6_S50000x1x10x6_0_0_0_0)
        shapeCasts_S50000x1x10x6_S50000x60 : FVec Ideal S50000x60 .f32) bitsLt_bf16_f32 : FVec Ideal S50000x60 .bf16) (ix2 n q)
      = feature g ⟨n.val, by omega⟩ q := by
  rw [truncf_apply, shapeCast_apply _ shapeCasts_S50000x1x10x6_S50000x60 (ix2 n q) (ix4 n (0 : Fin 1) (⟨q.val / 6, by omega⟩ : Fin 10) (⟨q.val % 6, by omega⟩ : Fin 6)) (by
    rw [Shape.rowMajor_val_four, Shape.rowMajor_val_two]
    show ((n.val * 1 + 0) * 10 + q.val / 6) * 6 + q.val % 6 = n.val * 60 + q.val
    omega)]
  refine extractStridedSlice_apply _ _ _ _ _ fun a => ?_
  match a with
  | ⟨0, _⟩ => show n.val = 0 + n.val; omega
  | ⟨1, _⟩ => rfl
  | ⟨2, _⟩ => show q.val / 6 = 0 + q.val / 6; omega
  | ⟨3, _⟩ => show q.val % 6 = 0 + q.val % 6; omega

/-- The array the first window stages: the first graph's features. -/
theorem V_x1 (n : Fin 50000) (q : Fin 60) :
    (V m c main_v2 : Vec Ideal S50000x60 .bf16) (ix2 n q) = feature (m ((c : Thread nD τ).loc main_arg0)) ⟨n.val, by omega⟩ q := by
  refine Eq.trans ?_ (flat_apply _ n q)
  refine congrFun ?_ (ix2 n q)
  show StableHlo.after hostOps0 _ _ = _
  after_results
  rfl

/-- The array the second window stages: the second graph's features. -/
theorem V_x2 (n : Fin 50000) (q : Fin 60) :
    (V m c main_v5 : Vec Ideal S50000x60 .bf16) (ix2 n q) = feature (m ((c : Thread nD τ).loc main_arg2)) ⟨n.val, by omega⟩ q := by
  refine Eq.trans ?_ (flat_apply _ n q)
  refine congrFun ?_ (ix2 n q)
  show StableHlo.after hostOps0 _ _ = _
  after_results
  rfl

/-- The array the third window stages is the first layer's weights. -/
theorem V_w1 : (V m c main_v6 : Vec Ideal S60x256 .bf16) = (m ((c : Thread nD τ).loc main_arg4) : Vec Ideal S60x256 .f32) := by
  show StableHlo.after hostOps0 _ _ = _
  after_results
  rfl

/-- The array the fifth window stages is the second layer's weights. -/
theorem V_w2 : (V m c main_v7 : Vec Ideal S256x256 .bf16) = (m ((c : Thread nD τ).loc main_arg6) : Vec Ideal S256x256 .f32) := by
  show StableHlo.after hostOps0 _ _ = _
  after_results
  rfl

/-- A bias vector reshaped to one row, read at a column. -/
theorem row_apply (b : Vec Ideal S256 .f32) (k : Fin 256) : shapeCast S1x256 b shapeCasts_S256_S1x256 (ix2 0 k) = b (ix1 k) :=
  shapeCast_apply _ _ _ _ (by
    rw [Shape.rowMajor_val_two, Shape.rowMajor_val_one]
    show k.val = 0 * 256 + k.val
    omega)

/-- The array the fourth window stages is the first layer's bias as a row. -/
theorem V_b1 (k : Fin 256) : (V m c main_v8 : Vec Ideal S1x256 .f32) (ix2 0 k) = (m ((c : Thread nD τ).loc main_arg5) : Vec Ideal S256 .f32) (ix1 k) := by
  refine Eq.trans (congrFun ?_ (ix2 0 k)) (row_apply _ k)
  show StableHlo.after hostOps0 _ _ = _
  after_results
  rfl

/-- The array the sixth window stages is the second layer's bias as a row. -/
theorem V_b2 (k : Fin 256) : (V m c main_v9 : Vec Ideal S1x256 .f32) (ix2 0 k) = (m ((c : Thread nD τ).loc main_arg7) : Vec Ideal S256 .f32) (ix1 k) := by
  refine Eq.trans (congrFun ?_ (ix2 0 k)) (row_apply _ k)
  show StableHlo.after hostOps0 _ _ = _
  after_results
  rfl

/-- At a computing point the two feature windows stand on the point's own block of rows. -/
theorem index_x : ∀ t : Fin cfg0.N, t.val < 5 →
    win0_0.index t 0 = t.val ∧ win0_0.index t 1 = 0 ∧ win0_1.index t 0 = t.val ∧ win0_1.index t 1 = 0 :=
  (by decide +kernel : ∀ t : Fin grid0.N, t.val < 5 →
    win0_0.index t 0 = t.val ∧ win0_0.index t 1 = 0 ∧ win0_1.index t 0 = t.val ∧ win0_1.index t 1 = 0)

/-- The weight and bias windows stand on their one block at every point. -/
theorem index_w : ∀ t : Fin cfg0.N, (∀ a, win0_2.index t a = 0) ∧ (∀ a, win0_3.index t a = 0) ∧ (∀ a, win0_4.index t a = 0) ∧ (∀ a, win0_5.index t a = 0) :=
  (by decide +kernel : ∀ t : Fin grid0.N, (∀ a, win0_2.index t a = 0) ∧ (∀ a, win0_3.index t a = 0) ∧ (∀ a, win0_4.index t a = 0) ∧ (∀ a, win0_5.index t a = 0))

/-- The two result windows stand on the point's own block of rows at every point. -/
theorem index_o : ∀ t : Fin cfg0.N,
    win0_6.index t 0 = t.val ∧ win0_6.index t 1 = 0 ∧ win0_7.index t 0 = t.val ∧ win0_7.index t 1 = 0 :=
  (by decide +kernel : ∀ t : Fin grid0.N,
    win0_6.index t 0 = t.val ∧ win0_6.index t 1 = 0 ∧ win0_7.index t 0 = t.val ∧ win0_7.index t 1 = 0)

/-- The first feature window's block at a computing point, read at a row and a feature. -/
theorem iblk_x1 (t : Fin cfg0.N) (ht : t.val < 5) (r : Fin 10000) (q : Fin 60) :
    (iblk m c 0 t : Vec Ideal S10000x60 .bf16) (ix2 r q)
      = feature (m ((c : Thread nD τ).loc main_arg0)) ⟨t.val * 10000 + r.val, by omega⟩ q := by
  refine Eq.trans ?_ (V_x1 m c ⟨t.val * 10000 + r.val, by omega⟩ q)
  obtain ⟨h0, h1, -, -⟩ := index_x t ht
  unfold iblk
  rw [View.read_apply]
  show V m c main_v2 _ = _
  congr 1
  funext a
  apply Fin.ext
  match a with
  | ⟨0, _⟩ => show win0_0.index t 0 * 10000 + 1 * r.val = t.val * 10000 + r.val; rw [h0]; omega
  | ⟨1, _⟩ => show win0_0.index t 1 * 60 + 1 * q.val = q.val; rw [h1]; omega

/-- The second feature window's block at a computing point, read at a row and a feature. -/
theorem iblk_x2 (t : Fin cfg0.N) (ht : t.val < 5) (r : Fin 10000) (q : Fin 60) :
    (iblk m c 1 t : Vec Ideal S10000x60 .bf16) (ix2 r q)
      = feature (m ((c : Thread nD τ).loc main_arg2)) ⟨t.val * 10000 + r.val, by omega⟩ q := by
  refine Eq.trans ?_ (V_x2 m c ⟨t.val * 10000 + r.val, by omega⟩ q)
  obtain ⟨-, -, h0, h1⟩ := index_x t ht
  unfold iblk
  rw [View.read_apply]
  show V m c main_v5 _ = _
  congr 1
  funext a
  apply Fin.ext
  match a with
  | ⟨0, _⟩ => show win0_1.index t 0 * 10000 + 1 * r.val = t.val * 10000 + r.val; rw [h0]; omega
  | ⟨1, _⟩ => show win0_1.index t 1 * 60 + 1 * q.val = q.val; rw [h1]; omega

/-- The first weight window's block is the first layer's weights. -/
theorem iblk_w1 (t : Fin cfg0.N) : (iblk m c 2 t : Vec Ideal S60x256 .bf16) = (m ((c : Thread nD τ).loc main_arg4) : Vec Ideal S60x256 .f32) := by
  refine Eq.trans ?_ (V_w1 m c)
  exact Memref.read_access_unit_zero (Elt Ideal) main_v6 (funext fun a => (congrArg (· * _) ((index_w t).1 a)).trans (Nat.zero_mul _)) _ _

/-- The second weight window's block is the second layer's weights. -/
theorem iblk_w2 (t : Fin cfg0.N) : (iblk m c 4 t : Vec Ideal S256x256 .bf16) = (m ((c : Thread nD τ).loc main_arg6) : Vec Ideal S256x256 .f32) := by
  refine Eq.trans ?_ (V_w2 m c)
  exact Memref.read_access_unit_zero (Elt Ideal) main_v7 (funext fun a => (congrArg (· * _) ((index_w t).2.2.1 a)).trans (Nat.zero_mul _)) _ _

/-- The first bias window's block, read at a column. -/
theorem iblk_b1 (t : Fin cfg0.N) (k : Fin 256) :
    (iblk m c 3 t : Vec Ideal S1x256 .f32) (ix2 0 k) = (m ((c : Thread nD τ).loc main_arg5) : Vec Ideal S256 .f32) (ix1 k) := by
  refine Eq.trans (congrFun ?_ (ix2 0 k)) (V_b1 m c k)
  exact Memref.read_access_unit_zero (Elt Ideal) main_v8 (funext fun a => (congrArg (· * _) ((index_w t).2.1 a)).trans (Nat.zero_mul _)) _ _

/-- The second bias window's block, read at a column. -/
theorem iblk_b2 (t : Fin cfg0.N) (k : Fin 256) :
    (iblk m c 5 t : Vec Ideal S1x256 .f32) (ix2 0 k) = (m ((c : Thread nD τ).loc main_arg7) : Vec Ideal S256 .f32) (ix1 k) := by
  refine Eq.trans (congrFun ?_ (ix2 0 k)) (V_b2 m c k)
  exact Memref.read_access_unit_zero (Elt Ideal) main_v9 (funext fun a => (congrArg (· * _) ((index_w t).2.2.2 a)).trans (Nat.zero_mul _)) _ _

/-- The result for the graph whose grids are `g`, with the weights and biases the launch holds. -/
abbrev result (g : Vec Ideal S100000x1x10x6 .f32) : Vec Ideal S100000x256 .f32 :=
  out g (m ((c : Thread nD τ).loc main_arg4)) (m ((c : Thread nD τ).loc main_arg5))
    (m ((c : Thread nD τ).loc main_arg6)) (m ((c : Thread nD τ).loc main_arg7))

/-- The result at a row of one of the first five blocks is the perceptron's output for that row. -/
theorem result_lt (g : Vec Ideal S100000x1x10x6 .f32) (n : Fin 100000) (hn : n.val < 50000) (j : Fin 256) :
    result m c g (ix2 n j) = mlp (m ((c : Thread nD τ).loc main_arg4)) (fun k => m ((c : Thread nD τ).loc main_arg5) (ix1 k))
      (m ((c : Thread nD τ).loc main_arg6)) (fun k => m ((c : Thread nD τ).loc main_arg7) (ix1 k)) (feature g n) j :=
  if_pos hn

/-- The result at a later row is zero. -/
theorem result_ge (g : Vec Ideal S100000x1x10x6 .f32) (n : Fin 100000) (hn : ¬n.val < 50000) (j : Fin 256) :
    result m c g (ix2 n j) = 0 :=
  if_neg hn

/-- A result window's block of an array, read at a row and a column, is the array at that row of the point's block. -/
theorem read_o6 (G : Vec Ideal S100000x256 .f32) (t : Fin cfg0.N) (r : Fin 10000) (j : Fin 256) :
    (((cfg0.win 6).blk t).view.read (Elt Ideal) G : Vec Ideal S10000x256 .f32) (ix2 r j)
      = G (ix2 ⟨t.val * 10000 + r.val, by have := t.isLt; have : cfg0.N = 10 := N_0; omega⟩ j) := by
  obtain ⟨h0, h1, -, -⟩ := index_o t
  rw [View.read_apply]
  show G _ = _
  congr 1
  funext a
  apply Fin.ext
  match a with
  | ⟨0, _⟩ => show win0_6.index t 0 * 10000 + 1 * r.val = t.val * 10000 + r.val; rw [h0]; omega
  | ⟨1, _⟩ => show win0_6.index t 1 * 256 + 1 * j.val = j.val; rw [h1]; omega

/-- The same for the second result's window. -/
theorem read_o7 (G : Vec Ideal S100000x256 .f32) (t : Fin cfg0.N) (r : Fin 10000) (j : Fin 256) :
    (((cfg0.win 7).blk t).view.read (Elt Ideal) G : Vec Ideal S10000x256 .f32) (ix2 r j)
      = G (ix2 ⟨t.val * 10000 + r.val, by have := t.isLt; have : cfg0.N = 10 := N_0; omega⟩ j) := by
  obtain ⟨-, -, h0, h1⟩ := index_o t
  rw [View.read_apply]
  show G _ = _
  congr 1
  funext a
  apply Fin.ext
  match a with
  | ⟨0, _⟩ => show win0_7.index t 0 * 10000 + 1 * r.val = t.val * 10000 + r.val; rw [h0]; omega
  | ⟨1, _⟩ => show win0_7.index t 1 * 256 + 1 * j.val = j.val; rw [h1]; omega

/-- What a computing point leaves for a graph, from its blocks: if the block `x` holds the features of the point's rows,
    the payload is the point's block of the result. -/
theorem payload_eq (g : Vec Ideal S100000x1x10x6 .f32) (t : Fin cfg0.N) (ht : t.val < 5) (x : Vec Ideal S10000x60 .bf16)
    (hx : ∀ (r : Fin 10000) (q : Fin 60), x (ix2 r q) = feature g ⟨t.val * 10000 + r.val, by omega⟩ q) (r : Fin 10000) (j : Fin 256) :
    k0_pay8 (F := Ideal) (iblk m c 2 t) (iblk m c 4 t) (iblk m c 3 t) (iblk m c 5 t) x (ix2 r j)
      = result m c g (ix2 ⟨t.val * 10000 + r.val, by omega⟩ j) := by
  rw [pay8_eq, pay1_apply, result_lt m c g _ (by show t.val * 10000 + r.val < 50000; omega)]
  simp only [hx]
  rw [iblk_w1, iblk_w2]
  simp only [iblk_b1, iblk_b2]

/-- Every point writes back, to the first result, its block of `result` of the first graph. -/
theorem flushed6_eq (t : Fin cfg0.N) (_ : (cfg0.win 6).flush t = true) :
    (dats m 0 c).flushed 6 t = ((cfg0.win 6).blk t).view.read (Elt Ideal) (result m c (m ((c : Thread nD τ).loc main_arg0))) := by
  have hN : t.val < 10 := by have := t.isLt; have : cfg0.N = 10 := N_0; omega
  funext y
  obtain ⟨r, j, rfl⟩ : ∃ (r : Fin 10000) (j : Fin 256), y = ix2 r j := ⟨y 0, y 1, eq_ix2 y⟩
  rw [read_o6]
  by_cases ht : t.val < 5
  · rw [Value.flushed6_A m c t ht (by omega), out_A_6]
    exact payload_eq m c _ t ht _ (iblk_x1 m c t ht) r j
  · rw [Value.flushed6_B m c t ht (by omega), out_B_6, result_ge m c _ _ (by show ¬t.val * 10000 + r.val < 50000; omega)]

/-- Every point writes back, to the second result, its block of `result` of the second graph. -/
theorem flushed7_eq (t : Fin cfg0.N) (_ : (cfg0.win 7).flush t = true) :
    (dats m 0 c).flushed 7 t = ((cfg0.win 7).blk t).view.read (Elt Ideal) (result m c (m ((c : Thread nD τ).loc main_arg2))) := by
  have hN : t.val < 10 := by have := t.isLt; have : cfg0.N = 10 := N_0; omega
  funext y
  obtain ⟨r, j, rfl⟩ : ∃ (r : Fin 10000) (j : Fin 256), y = ix2 r j := ⟨y 0, y 1, eq_ix2 y⟩
  rw [read_o7]
  by_cases ht : t.val < 5
  · rw [Value.flushed7_A m c t ht (by omega), out_A_7, ← pay8_eq]
    exact payload_eq m c _ t ht _ (iblk_x2 m c t ht) r j
  · rw [Value.flushed7_B m c t ht (by omega), out_B_7, result_ge m c _ _ (by show ¬t.val * 10000 + r.val < 50000; omega)]

/-- The grid point whose blocks hold row `n` of the results. -/
abbrev pointOf (i : S100000x256.Idx) : Fin cfg0.N :=
  ⟨(i 0).val / 10000, by have : cfg0.N = 10 := N_0; have : (i 0).val < 100000 := (i 0).isLt; omega⟩

/-- The first result array ends holding `result` of the first graph: the ten blocks cover its rows. -/
theorem final6 : (dats m 0 c).arrAt 6 cfg0.N = result m c (m ((c : Thread nD τ).loc main_arg0)) :=
  (dats m 0 c).arrAt_eq_of_cover 6 _ (flushed6_eq m c) fun i => ⟨pointOf i, flush0_6 _, by
    obtain ⟨h0, h1, -, -⟩ := index_o (pointOf i)
    show i ∈ ((View.whole main_v10_0).slice (win0_6.rect (pointOf i))).set
    rw [View.set_slice_whole, Rect.mem_set_unit]
    intro a
    match a with
    | ⟨0, _⟩ =>
      show win0_6.index (pointOf i) 0 * 10000 ≤ (i 0).val ∧ (i 0).val < win0_6.index (pointOf i) 0 * 10000 + 10000
      rw [h0]; show (i 0).val / 10000 * 10000 ≤ (i 0).val ∧ (i 0).val < (i 0).val / 10000 * 10000 + 10000; omega
    | ⟨1, _⟩ =>
      have : (i 1).val < 256 := (i 1).isLt
      show win0_6.index (pointOf i) 1 * 256 ≤ (i 1).val ∧ (i 1).val < win0_6.index (pointOf i) 1 * 256 + 256
      rw [h1]; omega⟩

/-- The second result array ends holding `result` of the second graph. -/
theorem final7 : (dats m 0 c).arrAt 7 cfg0.N = result m c (m ((c : Thread nD τ).loc main_arg2)) :=
  (dats m 0 c).arrAt_eq_of_cover 7 _ (flushed7_eq m c) fun i => ⟨pointOf i, flush0_7 _, by
    obtain ⟨-, -, h0, h1⟩ := index_o (pointOf i)
    show i ∈ ((View.whole main_v10_1).slice (win0_7.rect (pointOf i))).set
    rw [View.set_slice_whole, Rect.mem_set_unit]
    intro a
    match a with
    | ⟨0, _⟩ =>
      show win0_7.index (pointOf i) 0 * 10000 ≤ (i 0).val ∧ (i 0).val < win0_7.index (pointOf i) 0 * 10000 + 10000
      rw [h0]; show (i 0).val / 10000 * 10000 ≤ (i 0).val ∧ (i 0).val < (i 0).val / 10000 * 10000 + 10000; omega
    | ⟨1, _⟩ =>
      have : (i 1).val < 256 := (i 1).isLt
      show win0_7.index (pointOf i) 1 * 256 ≤ (i 1).val ∧ (i 1).val < win0_7.index (pointOf i) 1 * 256 + 256
      rw [h1]; omega⟩

end Cert.KernelIdeal.Block

end
-- ==== Proof.RefValue.lean ====
/-
  THE REFERENCE'S TWO RESULT ARRAYS over the extended reals, when the index arrays name the first 50000 nodes in order:
  each is `Cert.Spec.out` of its own graph's grids and the shared weights. The row lookup then reads row `n` for node
  `n`, its in-range test never fails, and the scatter adds row `n` of the perceptron's output to row `n` of zeros.
-/
module

public import proofs.«01_k».proof.Proof.Spec
public import proofs.«01_k».proof.Proof.Gen.ReferenceIdeal.Read
public import Idealize.ShloMosaic.Lib.Routing.Ops
public import Idealize.ShloMosaic.Lib.Routing.OpsPair
public import Idealize.ShloMosaic.Lib.ReduceAll
public import Idealize.ShloMosaic.Lib.StableHlo.Predicate

@[expose] public section

noncomputable section

namespace Cert.ReferenceIdeal.Rows

open Cert.ReferenceIdeal Cert.ReferenceIdeal.Gen Cert.ReferenceIdeal.Read Cert.Spec Idealize.ShloMosaic Idealize.ShloMosaic.ValueIdx
open scoped BigOperators

variable (g : (⟨S100000x1x10x6, .f32⟩ : BufTy).Contents (Elt Ideal)) (e : (⟨S50000, .i32⟩ : BufTy).Contents (Elt Ideal))
  (w1 : (⟨S60x256, .f32⟩ : BufTy).Contents (Elt Ideal)) (b1 : (⟨S256, .f32⟩ : BufTy).Contents (Elt Ideal))
  (w2 : (⟨S256x256, .f32⟩ : BufTy).Contents (Elt Ideal)) (b2 : (⟨S256, .f32⟩ : BufTy).Contents (Elt Ideal))

/-- The index array names the first 50000 nodes in order. -/
abbrev FirstNodes : Prop := ∀ i : S50000.Idx, e i = BitVec.ofNat 32 (i 0).val

/-- A word naming one of the first 50000 nodes is not negative, so adding the node count to negative words leaves it. -/
theorem wrap_node (n : Nat) (hn : n < 50000) (a : BitVec 32) :
    Scalar.select (IntOp.cmpi .slt (BitVec.ofNat 32 n) 0#32) a (BitVec.ofNat 32 n) = BitVec.ofNat 32 n :=
  Routing.wrap_of_lt _ a (by rw [BitVec.toNat_ofNat]; omega)

/-- Such a word is at least 0 and at most 99999, compared as signed words. -/
theorem in_range (n : Nat) (hn : n < 50000) :
    IntOp.andi (IntOp.cmpi .sge (BitVec.ofNat 32 n) 0#32) (IntOp.cmpi .sle (BitVec.ofNat 32 n) 99999#32) = 1#1 := by
  have h : (BitVec.ofNat 32 n).toInt = n := StableHlo.Predicate.toInt_ofNat_small n (by omega)
  refine IntOp.andi_eq_one.2 ⟨?_, ?_⟩
  · unfold IntOp.cmpi BitVec.sle
    rw [h, show (0#32).toInt = 0 from by decide, decide_eq_true (by omega : (0 : Int) ≤ n)]
    rfl
  · unfold IntOp.cmpi BitVec.sle
    rw [h, show (99999#32).toInt = 99999 from by decide, decide_eq_true (by omega : (n : Int) ≤ 99999)]
    rfl

/-- The lookup's start index for row `n` is the word of `n`. -/
theorem take_index (he : FirstNodes e) (i : S50000x1.Idx) : val_main_call0_v5 (F := Ideal) e i = BitVec.ofNat 32 (i 0).val := by
  rw [val_main_call0_v5_apply, val_main_call0_v4_apply, val_main_call0_v1_apply, val_main_call0_v0_apply, val_main_call0_c_apply, he]
  exact wrap_node _ (i 0).isLt _

/-- The lookup's in-range test holds at every row. -/
theorem take_in_range (he : FirstNodes e) (i : S50000.Idx) : val_main_call0_v12 (F := Ideal) e i = 1#1 := by
  unfold val_main_call0_v12
  refine Host.reduce_andi_one _ _ _ _ _ rfl fun j => ?_
  rw [val_main_call0_v11_apply, val_main_call0_v7_apply, val_main_call0_v10_apply, take_index e he, val_main_call0_v6_apply,
    val_main_call0_c_2_apply, val_main_call0_v9_apply, val_main_call0_v8_apply, val_main_call0_c_1_apply]
  exact in_range _ (j 0).isLt

/-- The grids flattened to 60 features, read at a node and a feature. -/
theorem flat_apply (n : Fin 100000) (q : Fin 60) : val_main_v1 (F := Ideal) g (ix2 n q) = feature g n q := by
  rw [val_main_v1_apply, val_main_v0_apply]
  unfold feature
  congr 1
  funext a
  apply Fin.ext
  match a with
  | ⟨0, _⟩ => show (((n.val * 60 + q.val) / 60 * 10 + (n.val * 60 + q.val) / 6 % 10) * 6 + (n.val * 60 + q.val) % 6) / 60 = n.val; omega
  | ⟨1, _⟩ => rfl
  | ⟨2, _⟩ => show (((n.val * 60 + q.val) / 60 * 10 + (n.val * 60 + q.val) / 6 % 10) * 6 + (n.val * 60 + q.val) % 6) / 6 % 10 = q.val / 6; omega
  | ⟨3, _⟩ => show (((n.val * 60 + q.val) / 60 * 10 + (n.val * 60 + q.val) / 6 % 10) * 6 + (n.val * 60 + q.val) % 6) % 6 = q.val % 6; omega

/-- The looked-up rows are the first 50000 nodes' features. -/
theorem take_apply (he : FirstNodes e) (n : Fin 50000) (q : Fin 60) :
    val_main_v2 (F := Ideal) g e (ix2 n q) = feature g ⟨n.val, by omega⟩ q := by
  rw [val_main_v2_apply, val_main_call0_v14_apply, take_in_range e he, select_one]
  unfold val_main_call0_v13
  refine (Routing.gather_row gather_S100000x60_S50000x1_S50000x60_1_0_n_n_0_1_160 rfl rfl rfl rfl rfl _ _ n q ⟨n.val, by omega⟩
    (take_index e he _) (by norm_num)).trans ?_
  exact flat_apply g _ q

/-- The first layer before its nonlinearity. -/
theorem first_apply (he : FirstNodes e) (n : Fin 50000) (k : Fin 256) :
    val_main_v6 (F := Ideal) g e w1 b1 (ix2 n k)
      = (∑ q : Fin 60, feature g ⟨n.val, by omega⟩ q * w1 (ix2 q k)) + b1 (ix1 k) := by
  rw [val_main_v6_apply, val_main_v3_apply, val_main_v5_apply, val_main_v4_apply]
  refine congrArg₂ (· + ·) (Finset.sum_congr rfl fun q _ => ?_) (congrArg b1 (funext fun a => ?_))
  · refine congrArg₂ (· * ·) ((congrArg _ (eq_ix2 _)).trans (take_apply g e he n q)) (congrArg w1 (eq_ix2 _))
  · match a with | ⟨0, _⟩ => rfl

/-- The zero word is the real number 0. -/
theorem word_zero : FloatOps.ofBits (F := Ideal) .f32 0x00000000#32 = (0 : EReal) := Ideal.ofBits_zero_f32

/-- The word of the float 1 is the real number 1. -/
theorem word_one : FloatOps.ofBits (F := Ideal) .f32 0x3F800000#32 = (1 : EReal) := ofBits_one

/-- The hidden layer is the exponential linear unit of the first layer. -/
theorem hidden_apply (i : S50000x256.Idx) : val_main_v7 (F := Ideal) g e w1 b1 i = elu (val_main_v6 (F := Ideal) g e w1 b1 i) := by
  rw [val_main_v7_apply, val_main_call1_v1_apply, val_main_call1_v0_apply, val_main_call1_v7_apply, val_main_call1_v6_apply,
    val_main_call1_v5_apply, val_main_call1_v4_apply, val_main_call1_v3_apply, val_main_call1_v2_apply, val_main_call1_call0_v1_apply,
    val_main_call1_call0_v0_apply, val_main_call1_cst_apply, val_main_call1_cst_0_apply, val_main_call1_cst_1_apply, val_main_call1_cst_2_apply]
  rw [word_zero, word_one]
  exact elu_where _

/-- The perceptron's output for row `n`. -/
theorem second_apply (he : FirstNodes e) (n : Fin 50000) (j : Fin 256) :
    val_main_v11 (F := Ideal) g e w1 b1 w2 b2 (ix2 n j)
      = mlp w1 (fun k => b1 (ix1 k)) w2 (fun k => b2 (ix1 k)) (feature g ⟨n.val, by omega⟩) j := by
  rw [val_main_v11_apply, val_main_v8_apply, val_main_v10_apply, val_main_v9_apply]
  unfold mlp
  refine congrArg₂ (· + ·) (Finset.sum_congr rfl fun k _ => ?_) (congrArg b2 (funext fun a => ?_))
  · refine congrArg₂ (· * ·) ?_ (congrArg w2 (eq_ix2 _))
    rw [hidden_apply]
    exact congrArg elu ((congrArg _ (eq_ix2 _)).trans (first_apply g e w1 b1 he n k))
  · match a with | ⟨0, _⟩ => rfl

/-- The scatter's index for update row `n` is the word of `n`. -/
theorem scatter_index (he : FirstNodes e) (i : S50000x1.Idx) : val_main_v18 (F := Ideal) e i = BitVec.ofNat 32 (i 0).val := by
  rw [val_main_v18_apply, val_main_v17_apply, val_main_v14_apply, val_main_v13_apply, val_main_c_apply, he]
  exact wrap_node _ (i 0).isLt _

/-- Entry `(n, k)` of the updates lands at `(r, j)` exactly when `n = r` and `k = j`. -/
theorem lands (he : FirstNodes e) (n : Fin 50000) (k : Fin 256) (r : Fin 100000) (j : Fin 256) :
    scatter_S100000x256_S50000x1_S50000x256_1_0_0_1.resultIdx? (ix2 n k) (val_main_v18 (F := Ideal) e) = some (ix2 r j)
      ↔ n.val = r.val ∧ k = j := by
  refine (Routing.resultIdx?_ix2 _ _ _ r j).trans ?_
  have h0 : scatter_S100000x256_S50000x1_S50000x256_1_0_0_1.start (ix2 n k) (val_main_v18 (F := Ideal) e) 0 = n.val := by
    refine Eq.trans ?_ (StableHlo.Predicate.toInt_ofNat_small n.val (by omega))
    exact congrArg BitVec.toInt (scatter_index e he _)
  have h1 : scatter_S100000x256_S50000x1_S50000x256_1_0_0_1.start (ix2 n k) (val_main_v18 (F := Ideal) e) 1 = 0 := rfl
  have hw0 : scatter_S100000x256_S50000x1_S50000x256_1_0_0_1.window (ix2 n k) 0 = 0 := rfl
  have hw1 : scatter_S100000x256_S50000x1_S50000x256_1_0_0_1.window (ix2 n k) 1 = k.val := rfl
  rw [h0, h1, hw0, hw1, Fin.ext_iff]
  omega

/-- The first result of the reference is `out` of its graph. -/
theorem out_eq (he : FirstNodes e) : val_main_v19 (F := Ideal) g e w1 b1 w2 b2 = out g w1 b1 w2 b2 := by
  funext i
  obtain ⟨r, j, rfl⟩ : ∃ (r : Fin 100000) (j : Fin 256), i = ix2 r j := ⟨i 0, i 1, eq_ix2 i⟩
  show Ideal.hostScatterAdd _ _ _ _ _ = _
  unfold Ideal.hostScatterAdd
  rw [val_main_v12_apply, val_main_cst_apply, word_zero, zero_add]
  by_cases hr : r.val < 50000
  · refine (Finset.sum_eq_single_of_mem (ix2 (⟨r.val, hr⟩ : Fin 50000) j) ?_ ?_).trans ?_
    · exact Finset.mem_filter.2 ⟨Finset.mem_univ _, (lands e he _ _ _ _).2 ⟨rfl, rfl⟩⟩
    · intro y hy hne
      obtain ⟨n, k, rfl⟩ : ∃ (n : Fin 50000) (k : Fin 256), y = ix2 n k := ⟨y 0, y 1, eq_ix2 y⟩
      obtain ⟨hn, rfl⟩ := (lands e he n k r j).1 (Finset.mem_filter.1 hy).2
      exact absurd (by rw [show n = ⟨r.val, hr⟩ from Fin.ext hn]) hne
    · rw [second_apply g e w1 b1 w2 b2 he]
      exact (if_pos hr).symm
  · refine (Finset.sum_eq_zero fun y hy => ?_).trans (if_neg hr).symm
    obtain ⟨n, k, rfl⟩ : ∃ (n : Fin 50000) (k : Fin 256), y = ix2 n k := ⟨y 0, y 1, eq_ix2 y⟩
    have := (lands e he n k r j).1 (Finset.mem_filter.1 hy).2
    omega

/-- The second result is the same function of the second graph. -/
theorem second_graph : val_main_v39 (F := Ideal) g e w1 b1 w2 b2 = val_main_v19 (F := Ideal) g e w1 b1 w2 b2 := rfl

end Cert.ReferenceIdeal.Rows

end
-- ==== Proof.lean ====
/-
  THE CERTIFICATE: every claim `Defs.lean` makes of the two-layer perceptron kernel, proved. The frames come from the
  generated runs; the value claim joins the kernel's result arrays (`Proof/KernelValue.lean`) and the reference's
  (`Proof/RefValue.lean`) at one function of the arguments, `Cert.Spec.out` (`Proof/Spec.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_first_nodes
public import proofs.«01_k».proof.Proof.Pre
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel as written, at the bit-exact instance, from any memory: every execution ends with its arguments unchanged
    and every counter at zero. -/
theorem frame_kernel : Cert.quiescent_Kernel := fun m g _ => Cert.Kernel.Gen.frame m g

/-- The kernel over the extended reals, from any memory: the same. -/
theorem frame_kernel_ideal : Cert.quiescent_KernelIdeal := fun m g _ => Cert.KernelIdeal.Gen.frame m g

/-- … and so from any memory whose index arrays name the first 50000 nodes. -/
theorem frame_kernel_ideal_pre : Cert.quiescent_KernelIdeal_pre_first_nodes := fun m g _ => Cert.KernelIdeal.Gen.frame m g

/-- The reference over the extended reals, from any memory: its arguments end unchanged, and it has no counter, so every
    counter is zero. -/
theorem frame_reference : Cert.quiescent_ReferenceIdeal := fun m g _ => (θ_run Cert.ReferenceIdeal.defs _ _).mono
  (fun r h => ⟨fun c => (h c).2.2, sem_eq_zero_of_no_sems (by decide) r.2⟩) (Cert.ReferenceIdeal.Value.run (F := Ideal) m g)

/-- … and so from any memory whose index arrays name the first 50000 nodes. -/
theorem frame_reference_pre : Cert.quiescent_ReferenceIdeal_pre_first_nodes := fun m g _ => frame_reference m g trivial

/-- The idealization rewrote no operation of the kernel: there is nothing to preserve. -/
theorem preserves : Cert.preserves_Kernel_KernelIdeal := trivial

/-- Over the extended reals, where the index arrays name the first 50000 nodes in order, the kernel and the reference
    launched on equal arguments end with equal results, both of them: `Cert.Spec.out` of the first and of the second
    graph's grids with the shared weights. -/
theorem algebraic : Cert.algebraic_KernelIdeal_ReferenceIdeal_pre_first_nodes := by
  intro m g m' g' hpre hagree
  refine ⟨fun c => Cert.KernelIdeal.Block.result m c (m ((c.tc : Thread Cert.KernelIdeal.nD Cert.KernelIdeal.τ).loc Cert.KernelIdeal.main_arg0)),
    fun c => Cert.KernelIdeal.Block.result m c (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Block.final6 m c), (h c).2.1.trans (Cert.KernelIdeal.Block.final7 m c), (h c).2.2⟩)
      (Cert.KernelIdeal.Value.run_blocks (F := Ideal) m g)
  · refine (θ_run Cert.ReferenceIdeal.defs _ _).mono (fun _ h c => ⟨(h c).1.trans ?_, (h c).2.1.trans ?_, (h c).2.2⟩)
      (Cert.ReferenceIdeal.Value.run (F := Ideal) m' g')
    · obtain ⟨e1, -⟩ := Cert.Pre_first_nodes.first_nodes _ _ _ _ _ _ _ _ (hpre c)
      obtain ⟨h0, h1, -, -, h4, h5, h6, h7⟩ := hagree c
      rw [Cert.ReferenceIdeal.Read.val_main_v19_eq, h0, h1, h4, h5, h6, h7]
      exact Cert.ReferenceIdeal.Rows.out_eq _ _ _ _ _ _ e1
    · obtain ⟨-, e3⟩ := Cert.Pre_first_nodes.first_nodes _ _ _ _ _ _ _ _ (hpre c)
      obtain ⟨-, -, h2, h3, h4, h5, h6, h7⟩ := hagree c
      rw [Cert.ReferenceIdeal.Read.val_main_v39_eq, h2, h3, h4, h5, h6, h7]
      exact (Cert.ReferenceIdeal.Rows.second_graph _ _ _ _ _ _).trans (Cert.ReferenceIdeal.Rows.out_eq _ _ _ _ _ _ e3)

/-- Every claim made of this kernel: the frames of the kernel, its idealization and the reference, that the
    idealization preserves the kernel, and that it equals the reference over the extended reals. -/
theorem claim : Cert.Claim := ⟨Cert.Kernel.Gen.facts, Cert.KernelIdeal.Gen.facts, Cert.ReferenceIdeal.Gen.facts, Cert.Pre_first_nodes.Gen.facts,
  frame_kernel, frame_kernel_ideal, frame_kernel_ideal_pre, frame_reference, frame_reference_pre, preserves, algebraic⟩

end Cert.Proof

end
